-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x24x24 : Shape := ⟨4, ![8, 256, 24, 24]⟩
abbrev S8192x256 : Shape := ⟨2, ![8192, 256]⟩
abbrev S8x24x24x256 : Shape := ⟨4, ![8, 24, 24, 256]⟩
abbrev S4608x256 : Shape := ⟨2, ![4608, 256]⟩
abbrev S4x1x1152 : Shape := ⟨3, ![4, 1, 1152]⟩
abbrev S1152x256 : Shape := ⟨2, ![1152, 256]⟩
abbrev S1024x256 : Shape := ⟨2, ![1024, 256]⟩
abbrev S1x1x1152 : Shape := ⟨3, ![1, 1, 1152]⟩
abbrev S1152 : Shape := ⟨1, ![1152]⟩
abbrev S1024 : Shape := ⟨1, ![1024]⟩
abbrev S1152x1024 : Shape := ⟨2, ![1152, 1024]⟩
abbrev S1152x1 : Shape := ⟨2, ![1152, 1]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8x256x24x24, .f32⟩
  | .hbm, ⟨1, _⟩ => ⟨S8192x256, .f32⟩
  | .hbm, ⟨2, _⟩ => ⟨S8x24x24x256, .f32⟩
  | .hbm, ⟨3, _⟩ => ⟨S4608x256, .f32⟩
  | .hbm, ⟨4, _⟩ => ⟨S4x1x1152, .i32⟩
  | .local _ .vmem, ⟨0, _⟩ => ⟨S1152x256, .f32⟩
  | .local _ .vmem, ⟨1, _⟩ => ⟨S1152x256, .f32⟩
  | .local _ .vmem, ⟨2, _⟩ => ⟨S1024x256, .f32⟩
  | .local _ .vmem, ⟨3, _⟩ => ⟨S1024x256, .f32⟩
  | .local _ .vmem, ⟨4, _⟩ => ⟨S1x1x1152, .i32⟩
  | .local _ .vmem, ⟨5, _⟩ => ⟨S1x1x1152, .i32⟩
  | .local _ .vmem, ⟨6, _⟩ => ⟨S1152, .f32⟩
  | .local _ .vmem, ⟨7, _⟩ => ⟨S1152, .i32⟩
  | _, _ => ⟨S8x256x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_11 : BitVec 32 := 0#32
  let v32 : BitVec 1 := Scalar.cmpi .ne v31 c0_i32_11
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1152x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1152 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal.lean ====
abbrev S8x256x24x24 : Shape := ⟨4, ![8, 256, 24, 24]⟩
abbrev S8192x256 : Shape := ⟨2, ![8192, 256]⟩
abbrev S8x24x24x256 : Shape := ⟨4, ![8, 24, 24, 256]⟩
abbrev S4608x256 : Shape := ⟨2, ![4608, 256]⟩
abbrev S_ : Shape := ⟨0, ![]⟩
abbrev S8192 : Shape := ⟨1, ![8192]⟩
abbrev S4608 : Shape := ⟨1, ![4608]⟩
abbrev S4608x1 : Shape := ⟨2, ![4608, 1]⟩
abbrev S1x8192 : Shape := ⟨2, ![1, 8192]⟩
abbrev S4608x8192 : Shape := ⟨2, ![4608, 8192]⟩
abbrev S256x8192 : Shape := ⟨2, ![256, 8192]⟩
abbrev S4x1x1152 : Shape := ⟨3, ![4, 1, 1152]⟩

abbrev nBuf : Space → Nat
  | .hbm => 27
  | .vmem => 0
  | .smem => 0
  | _ => 0

abbrev bufTy : (tb : Table) → Fin (tcTables nBuf tb) → BufTy
  | .hbm, ⟨0, _⟩ => ⟨S8x256x24x24, .f32⟩
  | .hbm, ⟨1, _⟩ => ⟨S8192x256, .f32⟩
  | .hbm, ⟨2, _⟩ => ⟨S8x24x24x256, .f32⟩
  | .hbm, ⟨3, _⟩ => ⟨S4608x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S4608x256, .f32⟩
  | .hbm, ⟨8, _⟩ => ⟨S_, .f32⟩
  | .hbm, ⟨9, _⟩ => ⟨S4608, .f32⟩
  | .hbm, ⟨10, _⟩ => ⟨S4608x1, .f32⟩
  | .hbm, ⟨11, _⟩ => ⟨S1x8192, .f32⟩
  | .hbm, ⟨12, _⟩ => ⟨S4608x8192, .f32⟩
  | .hbm, ⟨13, _⟩ => ⟨S4608x8192, .f32⟩
  | .hbm, ⟨14, _⟩ => ⟨S4608x8192, .f32⟩
  | .hbm, ⟨15, _⟩ => ⟨S256x8192, .f32⟩
  | .hbm, ⟨16, _⟩ => ⟨S4608x8192, .f32⟩
  | .hbm, ⟨17, _⟩ => ⟨S_, .f32⟩
  | .hbm, ⟨18, _⟩ => ⟨S4608x8192, .f32⟩
  | .hbm, ⟨19, _⟩ => ⟨S4608x8192, .f32⟩
  | .hbm, ⟨20, _⟩ => ⟨S4608x8192, .f32⟩
  | .hbm, ⟨21, _⟩ => ⟨S4608x8192, .i32⟩
  | .hbm, ⟨22, _⟩ => ⟨S_, .f32⟩
  | .hbm, ⟨23, _⟩ => ⟨S_, .i32⟩
  | .hbm, ⟨24, _⟩ => ⟨S4608, .f32⟩
  | .hbm, ⟨25, _⟩ => ⟨S4608, .i32⟩
  | .hbm, ⟨26, _⟩ => ⟨S4x1x1152, .i32⟩
  | _, _ => ⟨S8x256x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.RefRun.lean ====
/- The reference's run: what its result buffer holds at the end, as one expression over the two arguments. -/
module

public import Idealize.ShloMosaic.PureOps.Ideal.Laws
public import Idealize.ShloMosaic.Lib.StableHlo.Run
public import Idealize.ShloMosaic.Lib.Claim
public import Idealize.ShloMosaic.Lib.StableHlo.ReadAt
public import Idealize.ShloMosaic.Lib.Tactic
public import Idealize.ShloMosaic.Lib.Quiescent
public import proofs.«01_k».proof.Proof.Gen.ReferenceIdeal

@[expose] public section

noncomputable section

namespace Cert.ReferenceIdeal.RefRun

open Idealize.ShloMosaic Idealize.ShloMosaic.TcCoe Idealize.SL.Sem Cert.ReferenceIdeal Cert.ReferenceIdeal.Gen

/-- The rows: the image with its channels last, flattened. -/
def rows (z : FVec Ideal S8x256x24x24 .f32) : FVec Ideal S4608x256 .f32 :=
  shapeCast S4608x256 (transpose S8x24x24x256 [0, 2, 3, 1] z transposes_S8x256x24x24_S8x24x24x256_0_2_3_1) shapeCasts_S8x24x24x256_S4608x256

/-- The distances of the rows `x` to the codes `w`, as the reference computes them. -/
def dists (x : FVec Ideal S4608x256 .f32) (w : FVec Ideal S8192x256 .f32) : FVec Ideal S4608x8192 .f32 :=
  subf
    (addf
      (broadcastInDim S4608x8192 ![0, 1] bcast_S4608x1_S4608x8192_0_1 (broadcastInDim S4608x1 ![0] bcast_S4608_S4608x1_0
        (Host.reduceAdd (mulf x x) (constant S_ .f32 0x00000000#32) reducesTo_S4608x256_S4608_d1 h_S_)))
      (broadcastInDim S4608x8192 ![0, 1] bcast_S1x8192_S4608x8192_0_1 (broadcastInDim S1x8192 ![1] bcast_S8192_S1x8192_1
        (Host.reduceAdd (mulf w w) (constant S_ .f32 0x00000000#32) reducesTo_S8192x256_S8192_d1 h_S_))))
    (mulf (broadcastInDim S4608x8192 ![] bcast_S_S4608x8192 (constant S_ .f32 0x40000000#32))
      (Host.dotGeneral dot_S4608x256_S256x8192_S4608x8192_1_0_0_1_n_n none x
        (transpose S256x8192 [1, 0] w transposes_S8192x256_S256x8192_1_0)))

/-- Per row, the (value, index) pair that the reference's argmin folds to. -/
def best (d : FVec Ideal S4608x8192 .f32) : S4608.Idx → Ideal .f32 × BitVec 32 :=
  Host.argReduce reducer_argmin_f32_i32 d (iotaInDim S4608x8192 32 1) (constant S_ .f32 0x7F800000#32) (constantI S_ 32 0#32)
    reducesTo_S4608x8192_S4608_d1 h_S_

/-- The reference's result. -/
def answer (z : FVec Ideal S8x256x24x24 .f32) (w : FVec Ideal S8192x256 .f32) : IVec S4x1x1152 32 :=
  shapeCast S4x1x1152 (fun j => (best (dists (rows z) w) j).2) shapeCasts_S4608_S4x1x1152

/-- Reading the argmin's operand through its buffer's type changes nothing. -/
theorem ofBuf_15 (h1 h2 h3) (v : FVec Ideal S4608x8192 .f32) :
    (StableHlo.TRef.of (T := ⟨S4608x8192, .f32⟩) main_v15 h1 h2 h3).ofBuf (Val := Elt Ideal) v = v := rfl

/-- Nor does writing its result. -/
theorem toBuf_16 (h1 h2 h3) (v : IVec S4608 32) :
    (StableHlo.TRef.of (T := ⟨S4608, .i32⟩) main_v16 h1 h2 h3).toBuf (Val := Elt Ideal) v = v := rfl

/-- Nor does the result's reshape, through the buffers' types. -/
theorem cast_17 (h) (h') (p : S4608.Idx → Ideal .f32 × BitVec 32) :
    (fun i => shapeCast (s := (DevRef.ty (τ := τ) (sig := sig) (Proc.devRef .tc main_v16)).shape) (α := Elt Ideal (Ref.ty main_v16).elt)
      (Ref.ty main_v17).shape (fun j => (p j).2) h i) = shapeCast S4x1x1152 (fun j => (p j).2) h' := rfl

variable (m : (ℓ : Loc nD τ sig) → Buf (Elt Ideal) ℓ) (ρ : Dev nD → PrngReg)

/-- The run ends with the result buffer at `answer` and the arguments as they were. -/
theorem run : θ_run defs (onTc (τ := τ) (main (F := Ideal))) ⟨m, fun _ => 0, ρ⟩ fun r => ∀ c : Dev nD,
      r.2.mem ((c.tc : Thread nD τ).loc main_v17) = answer (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  simp only [StableHlo.TRef.ofBuf_toBuf]
  rw [toBuf_16, ofBuf_15]
  refine (cast_17 _ shapeCasts_S4608_S4x1x1152 _).trans ?_
  unfold answer
  refine congrArg (fun p : S4608.Idx → Ideal .f32 × BitVec 32 => shapeCast S4x1x1152 (fun j => (p j).2) shapeCasts_S4608_S4x1x1152) ?_
  unfold best
  rfl

/-- Its frame: no semaphore is declared, so every counter is at zero. -/
theorem frame : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, Idealize.ShloMosaic.sem_eq_zero_of_no_sems (by decide) r.2⟩) (run m ρ)

end Cert.ReferenceIdeal.RefRun
-- ==== Proof.FirstMin.lean ====
/- The first position at which a sequence of extended reals takes its least value, and the two ways in which the two
   programs look for it: a left fold over (value, index) pairs, and a sweep over blocks that keeps the best block so far. -/
module

public import Idealize.ShloMosaic.PureOps.Ideal
public import Idealize.ShloMosaic.PureOps.Ideal.Laws

@[expose] public section

namespace Cert.FirstMin

/-- Among the first `n` terms of `d`, `i` is the first position of the least one. -/
structure IsFirst (d : ℕ → EReal) (n i : ℕ) : Prop where
  lt : i < n
  le : ∀ j, j < n → d i ≤ d j
  first : ∀ j, j < i → d i < d j

/-- There is at most one such position. -/
theorem IsFirst.unique {d : ℕ → EReal} {n i j : ℕ} (hi : IsFirst d n i) (hj : IsFirst d n j) : i = j := by
  rcases Nat.lt_trichotomy i j with h | h | h
  · exact absurd (hi.le j hj.lt) (not_le.2 (hj.first i h))
  · exact h
  · exact absurd (hj.le i hi.lt) (not_le.2 (hi.first j h))

/-- It only depends on the first `n` terms. -/
theorem IsFirst.congr {d e : ℕ → EReal} {n i : ℕ} (h : IsFirst d n i) (hde : ∀ j, j < n → d j = e j) : IsFirst e n i where
  lt := h.lt
  le j hj := by rw [← hde i h.lt, ← hde j hj]; exact h.le j hj
  first j hj := by rw [← hde i h.lt, ← hde j (hj.trans h.lt)]; exact h.first j hj

/-- A least value of the next block that is strictly smaller moves the position into that block. -/
theorem IsFirst.append_lt {d : ℕ → EReal} {n k i i' : ℕ} (h : IsFirst d n i) (h' : IsFirst (fun j => d (n + j)) k i')
    (hlt : d (n + i') < d i) : IsFirst d (n + k) (n + i') where
  lt := by have := h'.lt; omega
  le j hj := by
    rcases Nat.lt_or_ge j n with hn | hn
    · exact (hlt.trans_le (h.le j hn)).le
    · obtain ⟨l, rfl⟩ := Nat.exists_eq_add_of_le hn
      exact h'.le l (by omega)
  first j hj := by
    rcases Nat.lt_or_ge j n with hn | hn
    · exact hlt.trans_le (h.le j hn)
    · obtain ⟨l, rfl⟩ := Nat.exists_eq_add_of_le hn
      exact h'.first l (by omega)

/-- Otherwise the position stays: an equal value later on is not the first. -/
theorem IsFirst.append_ge {d : ℕ → EReal} {n k i i' : ℕ} (h : IsFirst d n i) (h' : IsFirst (fun j => d (n + j)) k i')
    (hge : ¬ d (n + i') < d i) : IsFirst d (n + k) i where
  lt := by have := h.lt; omega
  le j hj := by
    rcases Nat.lt_or_ge j n with hn | hn
    · exact h.le j hn
    · obtain ⟨l, rfl⟩ := Nat.exists_eq_add_of_le hn
      exact (not_lt.1 hge).trans (h'.le l (by omega))
  first := h.first

/-- A fold of a choosing operation: where the operation returns one of its operands, and one that is `R`-below both, the fold's
    result is one of the folded values or the start, and `R`-below all of them. -/
theorem foldl_choice {ι β : Type} (op : β → β → β) (R : β → β → Prop) (hrefl : ∀ a, R a a)
    (htrans : ∀ a b c, R a b → R b c → R a c) (hl : ∀ a b, R (op a b) a) (hr : ∀ a b, R (op a b) b)
    (hc : ∀ a b, op a b = a ∨ op a b = b) (f : ι → β) (l : List ι) (b : β) :
    R (l.foldl (fun r i => op r (f i)) b) b ∧ (∀ i ∈ l, R (l.foldl (fun r i => op r (f i)) b) (f i)) ∧
      (l.foldl (fun r i => op r (f i)) b = b ∨ ∃ i ∈ l, l.foldl (fun r i => op r (f i)) b = f i) := by
  induction l generalizing b with
  | nil => exact ⟨hrefl b, by simp, .inl rfl⟩
  | cons a l ih =>
    obtain ⟨h1, h2, h3⟩ := ih (op b (f a))
    simp only [List.foldl_cons]
    refine ⟨htrans _ _ _ h1 (hl _ _), ?_, ?_⟩
    · intro i hi
      rcases List.mem_cons.1 hi with rfl | hi
      · exact htrans _ _ _ h1 (hr _ _)
      · exact h2 i hi
    · rcases h3 with h3 | ⟨i, hi, h3⟩
      · rcases hc b (f a) with h | h
        · exact .inl (h3.trans h)
        · exact .inr ⟨a, by simp, h3.trans h⟩
      · exact .inr ⟨i, by simp [hi], h3⟩

/-- The order in which the reference's fold chooses among (value, index) pairs: by value, equal values by index as a signed word. -/
def Before (a b : EReal × BitVec 32) : Prop := a.1 < b.1 ∨ (a.1 = b.1 ∧ a.2.toInt ≤ b.2.toInt)

theorem Before.refl (a : EReal × BitVec 32) : Before a a := .inr ⟨rfl, le_rfl⟩

theorem Before.trans (a b c : EReal × BitVec 32) (h : Before a b) (h' : Before b c) : Before a c := by
  rcases h with h | ⟨h, k⟩ <;> rcases h' with h' | ⟨h', k'⟩
  · exact .inl (h.trans h')
  · exact .inl (h.trans_eq h')
  · exact .inl (h.trans_lt h')
  · exact .inr ⟨h.trans h', k.trans k'⟩

/-- A small natural number as a signed word is itself. -/
theorem toInt_ofNat_small {i : ℕ} (h : i < 2 ^ 31) : (BitVec.ofNat 32 i).toInt = i := by
  rw [BitVec.toInt_eq_toNat_of_lt] <;> simp only [BitVec.toNat_ofNat] <;> omega

/-- A pair before all pairs (d j, j), and equal to one of them, is at the first position of the least value. -/
theorem isFirst_of_before {d : ℕ → EReal} {n i : ℕ} (hn : n ≤ 2 ^ 31) (hi : i < n)
    (hb : ∀ j, j < n → Before (d i, BitVec.ofNat 32 i) (d j, BitVec.ofNat 32 j)) : IsFirst d n i where
  lt := hi
  le j hj := by
    rcases hb j hj with h | h
    · exact le_of_lt h
    · exact le_of_eq h.1
  first j hj := by
    rcases hb j (by omega) with h | ⟨_, h⟩
    · exact h
    · exfalso
      simp only at h
      rw [toInt_ofNat_small (by omega), toInt_ofNat_small (by omega)] at h
      omega

end Cert.FirstMin
-- ==== Proof.Distance.lean ====
/- The squared distance between a row and a code as both programs write it: |a|² + |b|² − 2·⟨a, b⟩. Here: the kernel's block of
   distances, read at a place. -/
module

public import Idealize.ShloMosaic.PureOps.Ideal.Laws
public import Idealize.ShloMosaic.Lib.MatmulPlain
public import Idealize.ShloMosaic.Lib.ValueIdx
public import Idealize.ShloMosaic.Lib.ValueLayoutCasts
public import Idealize.ShloMosaic.Lib.Pipeline.Value
public import proofs.«01_k».proof.Proof.Gen.KernelIdeal.Skeleton

@[expose] public section

noncomputable section

namespace Cert.Distance

open Idealize.ShloMosaic Idealize.ShloMosaic.ValueIdx Cert.KernelIdeal Cert.KernelIdeal.Gen
open scoped BigOperators

/-- The squared distance of two vectors of 256 entries, in the association in which both programs compute it. -/
def sqDist (a b : Fin 256 → EReal) : EReal :=
  ((∑ d, a d * a d) + ∑ d, b d * b d) - Ideal.ofBits .f32 0x40000000#32 * ∑ d, a d * b d

/-- The sum of squares over the columns of a block with 256 columns, at a row. -/
theorem rowSquares {n : Nat} (x : FVec Ideal ⟨2, ![n, 256]⟩ .f32) (h : Shape.Reduces ⟨2, ![n, 256]⟩ [1] ⟨1, ![n]⟩)
    (hφ : FKind.Formats .f32) (hacc : (0x00000000#32 : BitVec 32) = FKind.add.neutral .f32 hφ) (r : Fin n) :
    multiReduction .add [1] ⟨1, ![n]⟩ (mulf x x) 0x00000000#32 h hφ hacc (ix1 r) = ∑ d : Fin 256, x (ix2 r d) * x (ix2 r d) := by
  refine (Ideal.multiReduction_add_single (a := (1 : Fin 2)) (mulf x x) _ h hφ hacc (ix1 r)).trans ?_
  refine Finset.sum_congr rfl fun d _ => ?_
  have e : h.lift (ix1 r) d = ix2 r d := by
    funext a
    match a with
    | ⟨0, _⟩ => rfl
    | ⟨1, _⟩ => rfl
  rw [e]
  rfl

/-- The kernel's block of distances, at row `r` and code `k` of the block. -/
theorem pay1_apply (x : Vec Ideal S1152x256 .f32) (w : Vec Ideal S1024x256 .f32) (r : Fin 1152) (k : Fin 1024) :
    k0_pay1 x w (ix2 r k) = sqDist (fun d => x (ix2 r d)) (fun d => w (ix2 k d)) := by
  unfold k0_pay1
  rw [shapeCast_self]
  show (broadcastTo S1152x1024 _ _ (ix2 r k) + broadcastTo S1152x1024 _ _ (ix2 r k))
      - Ideal.ofBits .f32 0x40000000#32 * matmul _ _ _ _ _ (ix2 r k) = _
  unfold sqDist
  refine congrArg₂ (· - ·) (congrArg₂ (· + ·) ?_ ?_) (congrArg _ ?_)
  · refine (broadcastTo_apply _ _ (ix2 r k) (ix2 r (0 : Fin 1)) ?_).trans ?_
    · intro a; match a with
      | ⟨0, _⟩ => rfl
      | ⟨1, _⟩ => rfl
    · rw [shapeCast_a_a1_apply]; exact rowSquares x _ _ _ r
  · rw [broadcastTo_1b_ab_apply, shapeCast_a_1a_apply]; exact rowSquares w _ _ _ k
  · refine (Ideal.matmul_transposedRhs_apply (M := 1152) (K := 256) (N := 1024) none x w
      (constant S1152x1024 .f32 0x00000000#32) r k).trans ?_
    show Ideal.ofBits .f32 0x00000000#32 + _ = _
    rw [Ideal.ofBits_zero_f32, zero_add]

end Cert.Distance
-- ==== Proof.BlockMin.lean ====
/- A block's least distance and the position of it, per row: what the kernel's two reductions over the codes of a block give. -/
module

public import proofs.«01_k».proof.Proof.FirstMin
public import proofs.«01_k».proof.Proof.Distance

@[expose] public section

noncomputable section

namespace Cert.BlockMin

open Idealize.ShloMosaic Idealize.ShloMosaic.ValueIdx Cert.KernelIdeal Cert.KernelIdeal.Gen Cert.FirstMin Cert.Distance

/-- The word that starts the minimum is plus infinity. -/
theorem ofBits_inf : Ideal.ofBits .f32 0x7F800000#32 = ⊤ := by simp [Ideal.ofBits, Ideal.ieee]

/-- The places of a block that a reduction over its columns folds into row `r`. -/
def places {n k : ℕ} (h : Shape.Reduces ⟨2, ![n, k]⟩ [1] ⟨1, ![n]⟩) (r : Fin n) : List (⟨2, ![n, k]⟩ : Shape).Idx :=
  ((List.finRange _).map (Shape.rowMajor ⟨2, ![n, k]⟩).symm).filter fun i => h.drop i = ix1 r

/-- They are row `r`'s. -/
theorem mem_places {n k : ℕ} (h : Shape.Reduces ⟨2, ![n, k]⟩ [1] ⟨1, ![n]⟩) (r : Fin n) (i : (⟨2, ![n, k]⟩ : Shape).Idx) :
    i ∈ places h r ↔ ∃ c : Fin k, i = ix2 r c := by
  have hd : ∀ i : (⟨2, ![n, k]⟩ : Shape).Idx, h.drop i = ix1 (i 0) := fun i => by
    funext a
    match a with
    | ⟨0, _⟩ => rfl
  unfold places
  simp only [List.mem_filter, List.mem_map, List.mem_finRange, true_and, decide_eq_true_eq, hd]
  constructor
  · rintro ⟨_, hr⟩
    have h0 : i 0 = r := congrFun hr 0
    exact ⟨i 1, by rw [eq_ix2 i, h0]; rfl⟩
  · rintro ⟨c, rfl⟩
    exact ⟨⟨Shape.rowMajor _ (ix2 r c), by simp⟩, rfl⟩

/-- A float minimum over the columns, read at a row, folds over the row's places. -/
theorem min_places {n k : ℕ} (v : FVec Ideal ⟨2, ![n, k]⟩ .f32) (h : Shape.Reduces ⟨2, ![n, k]⟩ [1] ⟨1, ![n]⟩)
    (hφ : FKind.Formats .f32) (hacc : (0x7F800000#32 : BitVec 32) = FKind.minimumf.neutral .f32 hφ) (r : Fin n) :
    multiReduction .minimumf [1] ⟨1, ![n]⟩ v 0x7F800000#32 h hφ hacc (ix1 r)
      = (places h r).foldl (fun a i => min a (v i)) (Ideal.ofBits .f32 0x7F800000#32) := by
  rw [multiReduction_minimumf_eq_reduceFold]
  exact reduceFold_eq_foldl h _ _ v (ix1 r)

/-- So does a signed minimum. -/
theorem minsi_places {n k : ℕ} (v : IVec ⟨2, ![n, k]⟩ 32) (h : Shape.Reduces ⟨2, ![n, k]⟩ [1] ⟨1, ![n]⟩)
    (hacc : (2147483647#32 : BitVec 32) = IKind.minsi.neutral) (r : Fin n) :
    multiReductionI .minsi [1] ⟨1, ![n]⟩ v 2147483647#32 h hacc (ix1 r)
      = (places h r).foldl (fun a i => IntOp.minsi a (v i)) 2147483647#32 := by
  rw [multiReductionI_eq_reduceFold]
  exact reduceFold_eq_foldl h _ _ v (ix1 r)

/-- The smaller of two signed words, as a choice. -/
theorem minsi_choice : (∀ a b : BitVec 32, (IntOp.minsi a b).toInt ≤ a.toInt) ∧ (∀ a b : BitVec 32, (IntOp.minsi a b).toInt ≤ b.toInt) ∧
    (∀ a b : BitVec 32, IntOp.minsi a b = a ∨ IntOp.minsi a b = b) := by
  refine ⟨fun a b => ?_, fun a b => ?_, fun a b => ?_⟩ <;> unfold IntOp.minsi <;> split <;> rename_i h <;>
    simp only [BitVec.slt, decide_eq_true_eq] at h
  · exact le_rfl
  · exact not_lt.1 h
  · exact h.le
  · exact le_rfl
  · exact .inl rfl
  · exact .inr rfl

variable (x : Vec Ideal S1152x256 .f32) (w : Vec Ideal S1024x256 .f32) (r : Fin 1152) (f : ℕ → EReal)

/-- The block's minimum is below all of the row's distances and is one of them. -/
theorem pay2_spec (hf : ∀ k : Fin 1024, k0_pay1 x w (ix2 r k) = f k) :
    (∀ k : Fin 1024, k0_pay2 x w (ix1 r) ≤ f k) ∧ ∃ k : Fin 1024, k0_pay2 x w (ix1 r) = f k := by
  have hp : k0_pay2 x w (ix1 r) = (places reduces_S1152x1024_S1152 r).foldl (fun a i => min a (k0_pay1 x w i))
      (Ideal.ofBits .f32 0x7F800000#32) := min_places (k0_pay1 x w) reduces_S1152x1024_S1152 (.inl rfl) rfl r
  obtain ⟨_, h2, h3⟩ := foldl_choice (fun a b : EReal => min a b) (· ≤ ·) le_refl (fun _ _ _ => le_trans) (fun a b => min_le_left a b)
    (fun a b => min_le_right a b) (fun a b => min_choice a b) (k0_pay1 x w) (places reduces_S1152x1024_S1152 r)
    (Ideal.ofBits .f32 0x7F800000#32)
  rw [← hp] at h2 h3
  have hle : ∀ k : Fin 1024, k0_pay2 x w (ix1 r) ≤ f k := fun k => by
    rw [← hf k]; exact h2 _ ((mem_places _ r _).2 ⟨k, rfl⟩)
  refine ⟨hle, ?_⟩
  rcases h3 with h3 | ⟨i, hi, h3⟩
  · refine ⟨0, le_antisymm (hle 0) ?_⟩
    rw [h3, ofBits_inf]; exact le_top
  · obtain ⟨k, rfl⟩ := (mem_places _ r i).1 hi
    exact ⟨k, h3.trans (hf k)⟩

/-- What the second reduction folds: the code's number where its distance is the minimum, 8192 elsewhere. -/
def marked (k : ℕ) : BitVec 32 := if f k = k0_pay2 x w (ix1 r) then BitVec.ofNat 32 k else 8192#32

/-- The block's minimum and its first position. -/
theorem block_first (hf : ∀ k : Fin 1024, k0_pay1 x w (ix2 r k) = f k) :
    ∃ i, IsFirst f 1024 i ∧ k0_pay2 x w (ix1 r) = f i ∧ k0_pay3 x w (ix1 r) = BitVec.ofNat 32 i := by
  obtain ⟨hle, k₀, hk₀⟩ := pay2_spec x w r f hf
  obtain ⟨v, hv⟩ : ∃ v : IVec S1152x1024 32, k0_pay3 x w (ix1 r) = (places reduces_S1152x1024_S1152 r).foldl
      (fun a i => IntOp.minsi a (v i)) 2147483647#32 ∧ ∀ k : Fin 1024, v (ix2 r k) = marked x w r f k := by
    refine ⟨_, minsi_places _ reduces_S1152x1024_S1152 rfl r, fun k => ?_⟩
    have hb : broadcastTo S1152x1024 (shapeCast S1152x1 (k0_pay2 x w) shapeCasts_S1152_S1152x1)
        broadcasts_S1152x1_S1152x1024 (ix2 r k) = k0_pay2 x w (ix1 r) := by
      refine (broadcastTo_apply _ _ (ix2 r k) (ix2 r (0 : Fin 1)) ?_).trans (shapeCast_a_a1_apply _ _ r 0)
      intro a; match a with
      | ⟨0, _⟩ => rfl
      | ⟨1, _⟩ => rfl
    show Scalar.select (FloatOps.cmpf .oeq (k0_pay1 x w (ix2 r k)) (broadcastTo S1152x1024 _ _ (ix2 r k))) (iota _ _ _ _ _ _) 8192#32 = _
    rw [hb, hf k, iota_single_apply, Ideal.cmpf_def]
    unfold marked Ideal.cmp
    by_cases h : f k = k0_pay2 x w (ix1 r)
    · rw [if_pos h, decide_eq_true h]; rfl
    · rw [if_neg h, decide_eq_false h]; rfl
  obtain ⟨hv, hm⟩ := hv
  obtain ⟨m1, m2, m3⟩ := minsi_choice
  obtain ⟨_, h2, h3⟩ := foldl_choice IntOp.minsi (fun a b : BitVec 32 => a.toInt ≤ b.toInt) (fun _ => le_rfl) (fun _ _ _ => le_trans) m1 m2 m3
    v (places reduces_S1152x1024_S1152 r) 2147483647#32
  rw [← hv] at h2 h3
  have hbelow : ∀ k : ℕ, k < 1024 → f k = k0_pay2 x w (ix1 r) → (k0_pay3 x w (ix1 r)).toInt ≤ k := fun k hk he => by
    have := h2 _ ((mem_places _ r _).2 ⟨⟨k, hk⟩, rfl⟩)
    rwa [hm, marked, if_pos he, toInt_ofNat_small (by simp only; omega)] at this
  have h0 := hbelow k₀ k₀.isLt hk₀.symm
  have hlt := k₀.isLt
  rcases h3 with h3 | ⟨i, hi, h3⟩
  · rw [h3] at h0
    have : (2147483647#32 : BitVec 32).toInt = 2147483647 := by decide
    omega
  · obtain ⟨k, rfl⟩ := (mem_places _ r i).1 hi
    rw [hm, marked] at h3
    by_cases he : f k = k0_pay2 x w (ix1 r)
    · rw [if_pos he] at h3
      have hk := k.isLt
      refine ⟨k, ⟨hk, fun j hj => he ▸ hle ⟨j, hj⟩, fun j hj => ?_⟩, he.symm, h3⟩
      have hj' : j < 1024 := hj.trans hk
      refine lt_of_le_of_ne (he ▸ hle ⟨j, hj'⟩) fun hne => ?_
      have := hbelow j hj' (hne ▸ he)
      rw [h3, toInt_ofNat_small (by omega)] at this
      omega
    · rw [if_neg he] at h3
      rw [h3] at h0
      have : (8192#32 : BitVec 32).toInt = 8192 := by decide
      omega

end Cert.BlockMin
-- ==== Proof.Steps.lean ====
/- What one grid point leaves behind: the running minimum and its position after the first codebook block of a row tile,
   after a later one, and the block of indices that the last one writes out, each as the payload that is stored. -/
module

public import Idealize.ShloMosaic.Lib.Pipeline.Value
public import proofs.«01_k».proof.Proof.Gen.KernelIdeal.Frame

@[expose] public section

noncomputable section

namespace Cert.KernelIdeal.Steps

open Idealize.ShloMosaic Idealize.ShloMosaic.TcCoe Idealize.ShloMosaic.Tactic Idealize.SL.Sem
open Cert.KernelIdeal Cert.KernelIdeal.Gen

variable {F : FTy → Type} [FloatOps F]

theorem zero1 : (![0] : Fin 1 → Nat) = fun _ => 0 := funext fun a => by fin_cases a; rfl
theorem zero2 : (![0, 0] : Fin 2 → Nat) = fun _ => 0 := funext fun a => by fin_cases a <;> rfl
theorem zero3 : (![0, 0, 0] : Fin 3 → Nat) = fun _ => 0 := funext fun a => by fin_cases a <;> rfl

variable (c : Dev nD) (i : grid0.Coords) (a2 : Memref sig .tc .vmem S1152x256 .f32) (h2 : a2.IsWhole)
  (a3 : Memref sig .tc .vmem S1024x256 .f32) (h3 : a3.IsWhole) (a4 : Memref sig .tc .vmem S1x1x1152 .i32) (h4 : a4.IsWhole)
  (a5 : Memref sig .tc .vmem S1152 .f32) (h5 : a5.IsWhole) (a6 : Memref sig .tc .vmem S1152 .i32) (h6 : a6.IsWhole)
  (x : Vec F S1152x256 .f32) (w : Vec F S1024x256 .f32) (mn : Vec F S1152 .f32) (ar : Vec F S1152 .i32)

/-- The running minimum after the first codebook block. -/
theorem min_A (hc0 : cond0_0 i) (hc1 : ¬cond0_1 i) (hc2 : ¬cond0_2 i) :
    sout0_A_0 c i a2 h2 a3 h3 a4 h4 a5 h5 a6 h6 hc0 hc1 hc2 x w = k0_pay4 x w := by
  unfold sout0_A_0
  rw [View.read_writes_eq_canon _ _ _ (scover0_A_0 c i a2 h2 a3 h3 a4 h4 a5 h5 a6 h6 hc0 hc1 hc2 x w)]
  unfold kernelRun0_A
  dsimp only
  rw [View.canon_unit_zero zero1]
  simp only [View.readAt_eq_ld, h2.read_unread, h3.read_unread, h5.read_unread, h6.read_unread, View.ld_unit_zero (S := S1152x256) zero2,
    View.ld_unit_zero (S := S1024x256) zero2, View.ld_unit_zero (S := S1152) zero1]

/-- Its position after the first codebook block. -/
theorem arg_A (hc0 : cond0_0 i) (hc1 : ¬cond0_1 i) (hc2 : ¬cond0_2 i) :
    sout0_A_1 c i a2 h2 a3 h3 a4 h4 a5 h5 a6 h6 hc0 hc1 hc2 x w = k0_pay5 x w := by
  unfold sout0_A_1
  rw [View.read_writes_eq_canon _ _ _ (scover0_A_1 c i a2 h2 a3 h3 a4 h4 a5 h5 a6 h6 hc0 hc1 hc2 x w)]
  unfold kernelRun0_A
  dsimp only
  rw [View.canon_unit_zero zero1]
  simp only [View.readAt_eq_ld, h2.read_unread, h3.read_unread, h5.read_unread, h6.read_unread, View.ld_unit_zero (S := S1152x256) zero2,
    View.ld_unit_zero (S := S1024x256) zero2, View.ld_unit_zero (S := S1152) zero1]

/-- The running minimum after a later codebook block. -/
theorem min_B (hc0 : ¬cond0_0 i) (hc1 : cond0_1 i) (hc2 : ¬cond0_2 i) :
    sout0_B_0 c i a2 h2 a3 h3 a4 h4 a5 h5 a6 h6 hc0 hc1 hc2 x w mn ar = k0_pay7 x w mn mn := by
  unfold sout0_B_0
  rw [View.read_writes_eq_canon _ _ _ (scover0_B_0 c i a2 h2 a3 h3 a4 h4 a5 h5 a6 h6 hc0 hc1 hc2 x w mn ar)]
  unfold kernelRun0_B
  dsimp only
  rw [View.canon_unit_zero zero1]
  simp only [View.readAt_eq_ld, h2.read_unread, h3.read_unread, h5.read_unread, h6.read_unread, View.ld_unit_zero (S := S1152x256) zero2,
    View.ld_unit_zero (S := S1024x256) zero2, View.ld_unit_zero (S := S1152) zero1]

/-- Its position after a later codebook block. -/
theorem arg_B (hc0 : ¬cond0_0 i) (hc1 : cond0_1 i) (hc2 : ¬cond0_2 i) :
    sout0_B_1 c i a2 h2 a3 h3 a4 h4 a5 h5 a6 h6 hc0 hc1 hc2 x w mn ar = k0_pay8 i x w mn ar := by
  unfold sout0_B_1
  rw [View.read_writes_eq_canon _ _ _ (scover0_B_1 c i a2 h2 a3 h3 a4 h4 a5 h5 a6 h6 hc0 hc1 hc2 x w mn ar)]
  unfold kernelRun0_B
  dsimp only
  rw [View.canon_unit_zero zero1]
  simp only [View.readAt_eq_ld, h2.read_unread, h3.read_unread, h5.read_unread, h6.read_unread, View.ld_unit_zero (S := S1152x256) zero2,
    View.ld_unit_zero (S := S1024x256) zero2, View.ld_unit_zero (S := S1152) zero1]

/-- The running minimum after the last codebook block. -/
theorem min_C (hc0 : ¬cond0_0 i) (hc1 : cond0_1 i) (hc2 : cond0_2 i) :
    sout0_C_0 c i a2 h2 a3 h3 a4 h4 a5 h5 a6 h6 hc0 hc1 hc2 x w mn ar = k0_pay7 x w mn mn := by
  unfold sout0_C_0
  rw [View.read_writes_eq_canon _ _ _ (scover0_C_0 c i a2 h2 a3 h3 a4 h4 a5 h5 a6 h6 hc0 hc1 hc2 x w mn ar)]
  unfold kernelRun0_C
  dsimp only
  rw [View.canon_unit_zero zero1]
  simp only [View.readAt_eq_ld, h2.read_unread, h3.read_unread, h5.read_unread, h6.read_unread, View.ld_unit_zero (S := S1152x256) zero2,
    View.ld_unit_zero (S := S1024x256) zero2, View.ld_unit_zero (S := S1152) zero1]

/-- Its position after the last codebook block. -/
theorem arg_C (hc0 : ¬cond0_0 i) (hc1 : cond0_1 i) (hc2 : cond0_2 i) :
    sout0_C_1 c i a2 h2 a3 h3 a4 h4 a5 h5 a6 h6 hc0 hc1 hc2 x w mn ar = k0_pay8 i x w mn ar := by
  unfold sout0_C_1
  rw [View.read_writes_eq_canon _ _ _ (scover0_C_1 c i a2 h2 a3 h3 a4 h4 a5 h5 a6 h6 hc0 hc1 hc2 x w mn ar)]
  unfold kernelRun0_C
  dsimp only
  sl_unfold_words
  rw [View.canon_unit_zero zero1]
  simp only [View.readAt_eq_ld, h2.read_unread, h3.read_unread, h5.read_unread, h6.read_unread, View.ld_unit_zero (S := S1152x256) zero2,
    View.ld_unit_zero (S := S1024x256) zero2, View.ld_unit_zero (S := S1152) zero1]

/-- The block of indices that is written out after the last codebook block: the positions just stored. -/
theorem out_C (hc0 : ¬cond0_0 i) (hc1 : cond0_1 i) (hc2 : cond0_2 i) :
    out0_C_2 c i a2 h2 a3 h3 a4 h4 a5 h5 a6 h6 hc0 hc1 hc2 x w mn ar = k0_pay9 (F := F) (k0_pay8 i x w mn ar) := by
  unfold out0_C_2
  rw [View.read_writes_eq_canon _ _ _ (cover0_C_2 c i a2 h2 a3 h3 a4 h4 a5 h5 a6 h6 hc0 hc1 hc2 x w mn ar)]
  unfold kernelRun0_C
  dsimp only
  sl_unfold_words
  rw [View.canon_unit_zero zero3, View.readCov_unit_zero (S := S1152) _ zero1]
  simp only [View.readAt_eq_ld, h2.read_unread, h3.read_unread, h5.read_unread, h6.read_unread, View.ld_unit_zero (S := S1152x256) zero2,
    View.ld_unit_zero (S := S1024x256) zero2, View.ld_unit_zero (S := S1152) zero1]

end Cert.KernelIdeal.Steps
-- ==== Proof.KernelValue.lean ====
/- The kernel's result read at a row: the blocks that a grid point reads, the running minimum through the blocks of a row tile,
   and the position that the last block writes out. -/
module

public import Idealize.ShloMosaic.Lib.Claim
public import Idealize.ShloMosaic.Lib.Pipeline.ValueKit
public import proofs.«01_k».proof.Proof.BlockMin
public import proofs.«01_k».proof.Proof.Steps
public import proofs.«01_k».proof.Proof.Gen.KernelIdeal.Value

@[expose] public section

noncomputable section

namespace Cert.KernelIdeal.KernelValue

open Idealize.ShloMosaic hiding ix1 ix2 ix3
open Idealize.ShloMosaic.ValueIdx Idealize.ShloMosaic.TcCoe Idealize.SL.Sem
open Cert.KernelIdeal Cert.KernelIdeal.Gen Cert.KernelIdeal.Steps Cert.FirstMin Cert.Distance Cert.BlockMin

/-- The rows: the image with its channels last, flattened. -/
def rows (z : FVec Ideal S8x256x24x24 .f32) : FVec Ideal S4608x256 .f32 :=
  shapeCast S4608x256 (transpose S8x24x24x256 [0, 2, 3, 1] z transposes_S8x256x24x24_S8x24x24x256_0_2_3_1) shapeCasts_S8x24x24x256_S4608x256

/-- Row `k` of a matrix with 256 columns, for any number `k` (zero past the last row). -/
def row {n : ℕ} (w : FVec Ideal ⟨2, ![n, 256]⟩ .f32) (k : ℕ) : Fin 256 → EReal := fun d => if h : k < n then w (ix2 ⟨k, h⟩ d) else 0

theorem row_val {n : ℕ} (w : FVec Ideal ⟨2, ![n, 256]⟩ .f32) (k : Fin n) : row w k = fun d => w (ix2 k d) := by
  funext d
  unfold row
  rw [dif_pos k.isLt]

/-- The distance of row `n` to code `k`, for any two numbers. -/
def dist (x : FVec Ideal S4608x256 .f32) (w : FVec Ideal S8192x256 .f32) (n k : ℕ) : EReal := sqDist (row x n) (row w k)

variable (m : (ℓ : Loc nD τ sig) → Buf (Elt Ideal) ℓ) (c : Dev nD)

/-- The rows and the codes of a run. -/
abbrev xs : FVec Ideal S4608x256 .f32 := rows (m ((c : Thread nD τ).loc main_arg0))
abbrev ws : FVec Ideal S8192x256 .f32 := m ((c : Thread nD τ).loc main_arg1)

theorem index0 : ∀ t : Fin cfg0.N, win0_0.index t (0 : Fin 2) = t.val / 8 ∧ win0_0.index t (1 : Fin 2) = 0 :=
  (by decide +kernel : ∀ t : Fin grid0.N, _)

theorem index1 : ∀ t : Fin cfg0.N, win0_1.index t (0 : Fin 2) = t.val % 8 ∧ win0_1.index t (1 : Fin 2) = 0 :=
  (by decide +kernel : ∀ t : Fin grid0.N, _)

theorem coord1 : ∀ t : Fin cfg0.N, (grid0.coords t 1).val = t.val % 8 :=
  (by decide +kernel : ∀ t : Fin grid0.N, _)

/-- The array behind the first window holds the rows. -/
theorem entry_rows : V m c main_v1 = xs m c := by
  entry_read
  rfl

/-- A grid point's block of rows. -/
theorem block0 (t : Fin cfg0.N) (r : Fin 1152) (d : Fin 256) (h : 1152 * (t.val / 8) + r.val < 4608) :
    iblk m c 0 t (ix2 r d) = xs m c (ix2 ⟨1152 * (t.val / 8) + r.val, h⟩ d) := by
  rw [← entry_rows m c]
  unfold iblk
  rw [View.read_apply]
  show V m c main_v1 _ = _
  congr 1
  funext a
  apply Fin.ext
  match a with
  | ⟨0, _⟩ =>
    show win0_0.index t 0 * 1152 + 1 * r.val = 1152 * (t.val / 8) + r.val
    rw [(index0 t).1]; omega
  | ⟨1, _⟩ =>
    show win0_0.index t 1 * 256 + 1 * d.val = d.val
    rw [(index0 t).2]; omega

/-- A grid point's block of codes. -/
theorem block1 (t : Fin cfg0.N) (k : Fin 1024) (d : Fin 256) (h : 1024 * (t.val % 8) + k.val < 8192) :
    iblk m c 1 t (ix2 k d) = ws m c (ix2 ⟨1024 * (t.val % 8) + k.val, h⟩ d) := by
  show _ = m ((c : Thread nD τ).loc main_arg1) _
  rw [← V_main_arg1 m c]
  unfold iblk
  rw [View.read_apply]
  show V m c main_arg1 _ = _
  congr 1
  funext a
  apply Fin.ext
  match a with
  | ⟨0, _⟩ =>
    show win0_1.index t 0 * 1024 + 1 * k.val = 1024 * (t.val % 8) + k.val
    rw [(index1 t).1]; omega
  | ⟨1, _⟩ =>
    show win0_1.index t 1 * 256 + 1 * d.val = d.val
    rw [(index1 t).2]; omega

/-- A grid point's distances. -/
theorem block_dist (t : Fin cfg0.N) (r : Fin 1152) (k : Fin 1024) :
    k0_pay1 (iblk m c 0 t) (iblk m c 1 t) (ix2 r k) = dist (xs m c) (ws m c) (1152 * (t.val / 8) + r.val) (1024 * (t.val % 8) + k.val) := by
  have hN : t.val < 32 := lt_of_lt_of_eq t.isLt (show cfg0.N = 32 from N_0)
  have hr := r.isLt
  have hk := k.isLt
  have h0 : 1152 * (t.val / 8) + r.val < 4608 := by omega
  have h1 : 1024 * (t.val % 8) + k.val < 8192 := by omega
  refine (pay1_apply _ _ r k).trans ?_
  unfold dist
  refine congrArg₂ sqDist (funext fun d => ?_) (funext fun d => ?_)
  · unfold row; rw [dif_pos h0]; exact block0 m c t r d h0
  · unfold row; rw [dif_pos h1]; exact block1 m c t k d h1

/-- What a grid point's two reductions give at a row. -/
theorem block_least (t : Fin cfg0.N) (r : Fin 1152) : ∃ i,
    IsFirst (fun k => dist (xs m c) (ws m c) (1152 * (t.val / 8) + r.val) (1024 * (t.val % 8) + k)) 1024 i
    ∧ k0_pay2 (iblk m c 0 t) (iblk m c 1 t) (ix1 r) = dist (xs m c) (ws m c) (1152 * (t.val / 8) + r.val) (1024 * (t.val % 8) + i)
    ∧ k0_pay3 (iblk m c 0 t) (iblk m c 1 t) (ix1 r) = BitVec.ofNat 32 i :=
  block_first _ _ r (fun k => dist (xs m c) (ws m c) (1152 * (t.val / 8) + r.val) (1024 * (t.val % 8) + k)) (block_dist m c t r)

/-- A running minimum `mn` and position `ar` that are right for row `n` over the first `l` codes. -/
def Right (n l : ℕ) (mn : EReal) (ar : BitVec 32) : Prop :=
  ∃ i, IsFirst (dist (xs m c) (ws m c) n) l i ∧ mn = dist (xs m c) (ws m c) n i ∧ ar = BitVec.ofNat 32 i

/-- The first block of a row tile. -/
theorem right_first (t : Fin cfg0.N) (r : Fin 1152) (ht : t.val % 8 = 0) :
    Right m c (1152 * (t.val / 8) + r.val) (1024 * (t.val % 8 + 1)) (k0_pay4 (iblk m c 0 t) (iblk m c 1 t) (ix1 r))
      (k0_pay5 (iblk m c 0 t) (iblk m c 1 t) (ix1 r)) := by
  obtain ⟨i, h1, h2, h3⟩ := block_least m c t r
  unfold k0_pay4 k0_pay5
  rw [shapeCast_self, shapeCast_self]
  simp only [ht, Nat.mul_zero, Nat.zero_add, Nat.mul_one] at h1 h2 ⊢
  exact ⟨i, h1, h2, h3⟩

/-- A later block, over what the blocks before it left. -/
theorem right_next (t : Fin cfg0.N) (r : Fin 1152) (mn : Vec Ideal S1152 .f32) (ar : Vec Ideal S1152 .i32)
    (h : Right m c (1152 * (t.val / 8) + r.val) (1024 * (t.val % 8)) (mn (ix1 r)) (ar (ix1 r))) :
    Right m c (1152 * (t.val / 8) + r.val) (1024 * (t.val % 8 + 1)) (k0_pay7 (iblk m c 0 t) (iblk m c 1 t) mn mn (ix1 r))
      (k0_pay8 (grid0.coords t) (iblk m c 0 t) (iblk m c 1 t) mn ar (ix1 r)) := by
  obtain ⟨i, h1, h2, h3⟩ := h
  obtain ⟨i', g1, g2, g3⟩ := block_least m c t r
  unfold k0_pay7 k0_pay8 k0_pay6
  rw [shapeCast_self, shapeCast_self]
  show Right m c _ _ (Scalar.select (FloatOps.cmpf .olt (k0_pay2 (iblk m c 0 t) (iblk m c 1 t) (ix1 r)) (mn (ix1 r)))
      (k0_pay2 (iblk m c 0 t) (iblk m c 1 t) (ix1 r)) (mn (ix1 r)))
    (Scalar.select (FloatOps.cmpf .olt (k0_pay2 (iblk m c 0 t) (iblk m c 1 t) (ix1 r)) (mn (ix1 r)))
      (Scalar.muli (BitVec.ofNat 32 (grid0.coords t 1).val) 1024#32 + k0_pay3 (iblk m c 0 t) (iblk m c 1 t) (ix1 r)) (ar (ix1 r)))
  rw [g2, g3, h2, h3, coord1 t, Ideal.cmpf_def, Nat.mul_add, Nat.mul_one]
  unfold Ideal.cmp
  by_cases hlt : dist (xs m c) (ws m c) (1152 * (t.val / 8) + r.val) (1024 * (t.val % 8) + i')
      < dist (xs m c) (ws m c) (1152 * (t.val / 8) + r.val) i
  · rw [decide_eq_true hlt]
    refine ⟨1024 * (t.val % 8) + i', h1.append_lt g1 hlt, rfl, ?_⟩
    show BitVec.ofNat 32 (t.val % 8) * 1024#32 + BitVec.ofNat 32 i' = _
    rw [← BitVec.ofNat_mul, ← BitVec.ofNat_add, Nat.mul_comm]
  · rw [decide_eq_false hlt]
    exact ⟨i, h1.append_ge g1 hlt, rfl, rfl⟩

/-- After every grid point the scratch is right for the codes so far. -/
theorem right_all : ∀ (n : ℕ) (hn : n < cfg0.N) (r : Fin 1152),
    Right m c (1152 * (n / 8) + r.val) (1024 * (n % 8 + 1)) ((outsAt0 m c n hn).2.1 (ix1 r)) ((outsAt0 m c n hn).2.2 (ix1 r)) := by
  intro n
  induction n with
  | zero =>
    intro hn r
    rw [outsAt0_A m c ⟨0, hn⟩ rfl (by norm_num) (by norm_num)]
    dsimp only
    rw [min_A, arg_A]
    exact right_first m c ⟨0, hn⟩ r rfl
  | succ n ih =>
    intro hn r
    by_cases h0 : (n + 1) % 8 = 0
    · rw [outsAt0_A m c ⟨n + 1, hn⟩ h0 (by show ¬ 1 ≤ (n + 1) % 8; omega) (by show ¬ (n + 1) % 8 = 7; omega)]
      dsimp only
      rw [min_A, arg_A]
      exact right_first m c ⟨n + 1, hn⟩ r h0
    · have prev := ih (Nat.lt_of_succ_lt hn) r
      have e1 : n / 8 = (n + 1) / 8 := by omega
      have e2 : n % 8 + 1 = (n + 1) % 8 := by omega
      rw [e1, e2] at prev
      by_cases h7 : (n + 1) % 8 = 7
      · rw [outsAt0_C m c ⟨n + 1, hn⟩ h0 (by show 1 ≤ (n + 1) % 8; omega) h7]
        dsimp only
        rw [min_C, arg_C]
        exact right_next m c ⟨n + 1, hn⟩ r _ _ prev
      · rw [outsAt0_B m c ⟨n + 1, hn⟩ h0 (by show 1 ≤ (n + 1) % 8; omega) h7]
        dsimp only
        rw [min_B, arg_B]
        exact right_next m c ⟨n + 1, hn⟩ r _ _ prev

/-- What the last block of a row tile writes out is the positions it stores. -/
theorem out_last (t : Fin cfg0.N) (h7 : t.val % 8 = 7) (j : Fin 1152) :
    (outsAt0 m c t.val t.isLt).1 (ix3 (0 : Fin 1) (0 : Fin 1) j) = (outsAt0 m c t.val t.isLt).2.2 (ix1 j) := by
  rw [outsAt0_C m c t (by omega) (by omega) h7]
  dsimp only
  rw [out_C, arg_C]
  unfold k0_pay9
  refine shapeCast_apply _ _ _ (ix1 j) ?_
  simp [Shape.rowMajor_val_three, Shape.rowMajor_val_one]

/-- The kernel's result at row `j` of tile `b`: the first position of the row's least distance. -/
theorem result_first (b : Fin 4) (j : Fin 1152) : ∃ i, IsFirst (dist (xs m c) (ws m c) (1152 * b.val + j.val)) 8192 i
    ∧ Cert.KernelIdeal.Value.G2 m c (ix3 b (0 : Fin 1) j) = BitVec.ofNat 32 i := by
  have hb := b.isLt
  have hj := j.isLt
  have hN : cfg0.N = 32 := N_0
  have hp : Cert.KernelIdeal.Value.pt2Of (ix3 b (0 : Fin 1) j) = 8 * b.val + 7 := by
    show 8 * (1 * (b.val / 1 - 0) + 1 * (0 / 1 - 0) + 1 * (j.val / 1152 - 0)) + 7 = _
    omega
  have hlt : 8 * b.val + 7 < cfg0.N := by omega
  have hl : Cert.KernelIdeal.Value.loc2Of (ix3 b (0 : Fin 1) j) = ix3 (0 : Fin 1) (0 : Fin 1) j := by
    funext a
    apply Fin.ext
    match a with
    | ⟨0, _⟩ => exact Nat.mod_one _
    | ⟨1, _⟩ => rfl
    | ⟨2, _⟩ => exact Nat.mod_eq_of_lt hj
  have hv : Cert.KernelIdeal.Value.G2 m c (ix3 b (0 : Fin 1) j) = (outsAt0 m c (8 * b.val + 7) hlt).1 (ix3 (0 : Fin 1) (0 : Fin 1) j) := by
    unfold Cert.KernelIdeal.Value.G2
    rw [dif_pos (by rw [hp]; exact hlt), hl, Cert.KernelIdeal.Value.outsAt0_sweep m c (8 * b.val + 7) hlt]
    exact congrArg (fun s => s.1 (ix3 (0 : Fin 1) (0 : Fin 1) j)) (Cert.KernelIdeal.Value.fold0_congr m c _ _ _ _ hp)
  have h := right_all m c (8 * b.val + 7) hlt j
  rw [← out_last m c ⟨8 * b.val + 7, hlt⟩ (by show (8 * b.val + 7) % 8 = 7; omega) j] at h
  have e1 : (8 * b.val + 7) / 8 = b.val := by omega
  have e2 : 1024 * ((8 * b.val + 7) % 8 + 1) = 8192 := by omega
  rw [e1, e2] at h
  obtain ⟨i, g1, _, g3⟩ := h
  exact ⟨i, g1, hv.trans g3⟩

end Cert.KernelIdeal.KernelValue
-- ==== Proof.RefValue.lean ====
/- The reference's result read at a row: the first position of the row's least distance. -/
module

public import Idealize.ShloMosaic.Lib.IdealHost
public import Idealize.ShloMosaic.Lib.StackMember
public import Idealize.ShloMosaic.Lib.ValueLayout
public import proofs.«01_k».proof.Proof.FirstMin
public import proofs.«01_k».proof.Proof.Distance
public import proofs.«01_k».proof.Proof.RefRun

@[expose] public section

noncomputable section

namespace Cert.RefValue

open Idealize.ShloMosaic hiding ix1 ix2 ix3
open Idealize.ShloMosaic.ValueIdx Cert.ReferenceIdeal Cert.ReferenceIdeal.Gen Cert.FirstMin Cert.Distance
open Cert.ReferenceIdeal.RefRun
open scoped BigOperators

/-- The pairs that a reduction over the columns folds into row `r` are the row's. -/
theorem mem_fiber {n k : ℕ} (x : (⟨2, ![n, k]⟩ : Shape).Idx → EReal) (y : (⟨2, ![n, k]⟩ : Shape).Idx → BitVec 32)
    (h : Shape.ReducesTo ⟨2, ![n, k]⟩ [1] ⟨1, ![n]⟩) (r : Fin n) (p : EReal × BitVec 32) :
    p ∈ Host.argReduceFiber x y h (ix1 r) ↔ ∃ c : Fin k, p = (x (ix2 r c), y (ix2 r c)) := by
  have hd : ∀ i : (⟨2, ![n, k]⟩ : Shape).Idx, h.drop i = ix1 (i 0) := fun i => by
    funext a
    match a with
    | ⟨0, _⟩ => rfl
  unfold Host.argReduceFiber
  simp only [List.mem_map, List.mem_filter, List.mem_finRange, true_and, decide_eq_true_eq, hd]
  constructor
  · rintro ⟨l, hl, rfl⟩
    have h0 : ((Shape.rowMajor _).symm l : (⟨2, ![n, k]⟩ : Shape).Idx) 0 = r := congrFun hl 0
    refine ⟨((Shape.rowMajor _).symm l : (⟨2, ![n, k]⟩ : Shape).Idx) 1, ?_⟩
    rw [← h0]; exact congrArg (fun i => (x i, y i)) (ValueIdx.eq_ix2 _)
  · rintro ⟨c, rfl⟩
    exact ⟨Shape.rowMajor _ (ix2 r c), by rw [Equiv.symm_apply_apply]; rfl, by rw [Equiv.symm_apply_apply]⟩

/-- The reference's argmin step picks, of two pairs, the one with the smaller value and at equal values the one with the smaller index. -/
theorem reducer_eq (a b : EReal × BitVec 32) : reducer_argmin_f32_i32 (F := Ideal) a b
    = (if a.1 < b.1 then a.1 else b.1, if a.1 < b.1 ∨ (a.1 = b.1 ∧ a.2.toInt < b.2.toInt) then a.2 else b.2) := by
  have h1 : FloatOps.cmpf (F := Ideal) (φ := .f32) .olt a.1 b.1 = BitVec.ofBool (decide (a.1 < b.1)) := rfl
  have h2 : FloatOps.cmpf (F := Ideal) (φ := .f32) .une a.1 a.1 = 0#1 := by simp [Ideal.cmpf_def, Ideal.cmp]
  have h3 : FloatOps.cmpf (F := Ideal) (φ := .f32) .oeq a.1 b.1 = BitVec.ofBool (decide (a.1 = b.1)) := rfl
  have h4 : IntOp.cmpi .slt a.2 b.2 = BitVec.ofBool (decide (a.2.toInt < b.2.toInt)) := rfl
  unfold reducer_argmin_f32_i32
  simp only [h1, h2, h3, h4]
  by_cases c1 : a.1 < b.1
  · rw [decide_eq_true c1, if_pos c1, if_pos (.inl c1)]
    by_cases c2 : a.1 = b.1
    · exact absurd c1 (c2 ▸ lt_irrefl _)
    · rw [decide_eq_false c2]; cases decide (a.2.toInt < b.2.toInt) <;> rfl
  · rw [decide_eq_false c1, if_neg c1]
    by_cases c2 : a.1 = b.1
    · by_cases c3 : a.2.toInt < b.2.toInt
      · rw [decide_eq_true c2, decide_eq_true c3, if_pos (.inr ⟨c2, c3⟩)]; rfl
      · rw [decide_eq_true c2, decide_eq_false c3, if_neg (by rintro (h | h); exacts [c1 h, c3 h.2])]; rfl
    · rw [decide_eq_false c2, if_neg (by rintro (h | h); exacts [c1 h, c2 h.1])]; cases decide (a.2.toInt < b.2.toInt) <;> rfl

theorem reducer_choice (a b : EReal × BitVec 32) :
    reducer_argmin_f32_i32 (F := Ideal) a b = a ∧ Before a b ∨ reducer_argmin_f32_i32 (F := Ideal) a b = b ∧ Before b a := by
  obtain ⟨a1, a2⟩ := a
  obtain ⟨b1, b2⟩ := b
  rw [reducer_eq]
  rcases lt_trichotomy a1 b1 with h | h | h
  · left; simp only [h, true_or, if_true]; exact ⟨trivial, .inl h⟩
  · subst h
    by_cases c : a2.toInt < b2.toInt
    · left; simp only [lt_irrefl, false_or, true_and, c, if_true, if_false]; exact .inr ⟨rfl, c.le⟩
    · right; simp only [lt_irrefl, false_or, true_and, c, if_false]; exact .inr ⟨rfl, not_lt.1 c⟩
  · right
    simp only [not_lt.2 h.le, h.ne', false_or, false_and, if_false]; exact ⟨trivial, .inl h⟩

/-- The index that the reference's argmin gives at a row is the first position of the row's least entry. -/
theorem best_first (d : FVec Ideal S4608x8192 .f32) (n : Fin 4608) (f : ℕ → EReal) (hf : ∀ k : Fin 8192, d (ix2 n k) = f k) :
    ∃ i, IsFirst f 8192 i ∧ (best d (ix1 n)).2 = BitVec.ofNat 32 i := by
  have hb : best d (ix1 n) = (Host.argReduceFiber d (iotaInDim S4608x8192 32 1) reducesTo_S4608x8192_S4608_d1 (ix1 n)).foldl
      (fun r i => reducer_argmin_f32_i32 (F := Ideal) r (id i)) (⊤, 0#32) := by
    unfold best
    rw [Ideal.argReduce_eq_reduce2, Host.reduce2_eq_foldl_fiber]
    have e : Ideal.ofBits .f32 0x7F800000#32 = ⊤ := by simp [Ideal.ofBits, Ideal.ieee]
    rw [← e]
    rfl
  obtain ⟨_, h2, h3⟩ := foldl_choice (reducer_argmin_f32_i32 (F := Ideal)) Before Before.refl Before.trans
    (fun a b => by rcases reducer_choice a b with h | h <;> rw [h.1]; exacts [Before.refl _, h.2])
    (fun a b => by rcases reducer_choice a b with h | h <;> rw [h.1]; exacts [h.2, Before.refl _])
    (fun a b => by rcases reducer_choice a b with h | h; exacts [.inl h.1, .inr h.1]) id
    (Host.argReduceFiber d (iotaInDim S4608x8192 32 1) reducesTo_S4608x8192_S4608_d1 (ix1 n)) (⊤, 0#32)
  rw [← hb] at h2 h3
  have hm : ∀ k, k < 8192 → Before (best d (ix1 n)) (f k, BitVec.ofNat 32 k) := fun k hk => by
    refine h2 (f k, BitVec.ofNat 32 k) ((mem_fiber d _ _ n _).2 ⟨⟨k, hk⟩, ?_⟩)
    rw [hf]; rfl
  have key : ∃ i, i < 8192 ∧ best d (ix1 n) = (f i, BitVec.ofNat 32 i) := by
    rcases h3 with h3 | ⟨p, hp, h3⟩
    · refine ⟨0, by norm_num, h3.trans (Prod.ext ?_ rfl)⟩
      have h0 := hm 0 (by norm_num)
      rw [h3] at h0
      rcases h0 with h0 | h0
      · exact absurd h0 not_top_lt
      · exact h0.1
    · obtain ⟨c, rfl⟩ := (mem_fiber d _ _ n p).1 hp
      exact ⟨c, c.isLt, h3.trans (by rw [← hf c]; rfl)⟩
  obtain ⟨i, hi, he⟩ := key
  exact ⟨i, isFirst_of_before (by norm_num) hi fun j hj => he ▸ hm j hj, by rw [he]⟩

/-- A host sum of squares over 256 columns, at a row. -/
theorem hostSquares {n : ℕ} (x : FVec Ideal ⟨2, ![n, 256]⟩ .f32) (h' : Shape.ReducesTo ⟨2, ![n, 256]⟩ [1] ⟨1, ![n]⟩)
    (h : Shape.Reduces ⟨2, ![n, 256]⟩ [1] ⟨1, ![n]⟩) (hu : 0 < S_.numel) (r : Fin n) :
    Host.reduceAdd (mulf x x) (constant S_ .f32 0x00000000#32) h' hu (ix1 r) = ∑ d : Fin 256, x (ix2 r d) * x (ix2 r d) := by
  rw [hostReduceAdd_apply, Ideal.hostReduceAdd_single h' h]
  have e0 : (constant (F := Ideal) S_ .f32 0x00000000#32) (Shape.Idx.first hu) = (0 : EReal) := Ideal.ofBits_zero_f32
  rw [e0, zero_add]
  refine Finset.sum_congr rfl fun d _ => ?_
  have e : h.lift (ix1 r) d = ix2 r d := by
    funext a
    match a with
    | ⟨0, _⟩ => rfl
    | ⟨1, _⟩ => rfl
  rw [e]
  rfl

/-- The reference's distance of row `n` to code `k`. -/
theorem dists_apply (x : FVec Ideal S4608x256 .f32) (w : FVec Ideal S8192x256 .f32) (n : Fin 4608) (k : Fin 8192) :
    dists x w (ix2 n k) = sqDist (fun d => x (ix2 n d)) (fun d => w (ix2 k d)) := by
  unfold dists sqDist
  refine congrArg₂ (· - ·) (congrArg₂ (· + ·) ?_ ?_) (congrArg₂ (· * ·) ?_ ?_)
  · refine (broadcastInDim_apply _ _ _ (ix2 n k) (ix2 n (0 : Fin 1)) ?_).trans ?_
    · intro a; match a with
      | ⟨0, _⟩ => rfl
      | ⟨1, _⟩ => rfl
    refine (broadcastInDim_apply _ _ _ (ix2 n (0 : Fin 1)) (ix1 n) ?_).trans ?_
    · intro a; match a with
      | ⟨0, _⟩ => rfl
    exact hostSquares x _ (by decide) _ n
  · refine (broadcastInDim_apply _ _ _ (ix2 n k) (ix2 (0 : Fin 1) k) ?_).trans ?_
    · intro a; match a with
      | ⟨0, _⟩ => rfl
      | ⟨1, _⟩ => rfl
    refine (broadcastInDim_apply _ _ _ (ix2 (0 : Fin 1) k) (ix1 k) ?_).trans ?_
    · intro a; match a with
      | ⟨0, _⟩ => rfl
    exact hostSquares w _ (by decide) _ k
  · exact broadcastInDim_scalar_apply _ _ _
  · refine (StackMember.dotGeneral_plain_apply (m := 4608) (k := 256) (n := 8192) none x _ n k).trans ?_
    refine Finset.sum_congr rfl fun d _ => congrArg _ ?_
    exact transpose_ix2_apply w _ d k

end Cert.RefValue
-- ==== Proof.Equal.lean ====
/- The kernel's result array is the reference's answer. -/
module

public import proofs.«01_k».proof.Defs
public import proofs.«01_k».proof.Proof.KernelValue
public import proofs.«01_k».proof.Proof.RefValue

@[expose] public section

noncomputable section

namespace Cert.Equal

open Idealize.ShloMosaic hiding ix1 ix2 ix3
open Idealize.ShloMosaic.ValueIdx Idealize.ShloMosaic.TcCoe Idealize.SL.Sem Cert.FirstMin Cert.Distance Cert.KernelIdeal.KernelValue

/-- The reference's answer at row `j` of tile `b`: the first position of the row's least distance. -/
theorem answer_first (z : FVec Ideal Cert.ReferenceIdeal.S8x256x24x24 .f32) (w : FVec Ideal Cert.ReferenceIdeal.S8192x256 .f32)
    (b : Fin 4) (j : Fin 1152) : ∃ i, IsFirst (dist (rows z) w (1152 * b.val + j.val)) 8192 i
      ∧ Cert.ReferenceIdeal.RefRun.answer z w (ix3 b (0 : Fin 1) j) = BitVec.ofNat 32 i := by
  have hb := b.isLt
  have hj := j.isLt
  have hn : 1152 * b.val + j.val < 4608 := by omega
  obtain ⟨i, h1, h2⟩ := Cert.RefValue.best_first (Cert.ReferenceIdeal.RefRun.dists (Cert.ReferenceIdeal.RefRun.rows z) w)
    ⟨1152 * b.val + j.val, hn⟩ (dist (rows z) w (1152 * b.val + j.val)) fun k => by
      rw [Cert.RefValue.dists_apply]
      unfold Cert.KernelIdeal.KernelValue.dist
      rw [row_val w k]
      refine congrArg₂ sqDist ?_ rfl
      funext d
      unfold row
      rw [dif_pos hn]
      rfl
  refine ⟨i, h1, Eq.trans ?_ h2⟩
  unfold Cert.ReferenceIdeal.RefRun.answer
  refine shapeCast_apply _ _ _ (ix1 ⟨1152 * b.val + j.val, hn⟩) ?_
  rw [Shape.rowMajor_val_three, Shape.rowMajor_val_one]
  show 1152 * b.val + j.val = (b.val * 1 + 0) * 1152 + j.val
  omega

/-- The two arrays are equal, from arguments that agree. -/
theorem result_eq (m : (ℓ : Loc Cert.KernelIdeal.nD Cert.KernelIdeal.τ Cert.KernelIdeal.sig) → Buf (Elt Ideal) ℓ) (c : Dev Cert.KernelIdeal.nD) :
    Cert.ReferenceIdeal.RefRun.answer (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = Cert.KernelIdeal.Value.G2 m c := by
  funext i
  obtain ⟨b, o, j, rfl⟩ : ∃ (b : Fin 4) (o : Fin 1) (j : Fin 1152), i = ix3 b o j := ⟨_, _, _, ValueIdx.eq_ix3 i⟩
  obtain rfl : o = 0 := Subsingleton.elim _ _
  obtain ⟨i1, h1, e1⟩ := answer_first (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) b j
  obtain ⟨i2, h2, e2⟩ := result_first m c b j
  rw [e1]
  refine Eq.trans ?_ e2.symm
  rw [IsFirst.unique h1 h2]

/-- The idealized kernel and the reference end with equal results. -/
theorem algebraic : Cert.algebraic_KernelIdeal_ReferenceIdeal := by
  intro m g m' g' _ hagree
  refine ⟨fun c => Cert.KernelIdeal.Value.G2 m c, Cert.KernelIdeal.Value.run m g, ?_⟩
  refine (θ_run _ _ _).mono (fun r h c => ⟨(h c).1.trans ?_, (h c).2⟩) (Cert.ReferenceIdeal.RefRun.run m' g')
  rw [(hagree c).1, (hagree c).2]
  exact result_eq m c

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.RefRun
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.RefRun.frame m ρ,
  trivial, Cert.Equal.algebraic⟩

end Cert.Proof

end
